-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x10000 : Shape := ⟨2, ![4096, 10000]⟩
abbrev S100x10000 : Shape := ⟨2, ![100, 10000]⟩
abbrev S10000x100 : Shape := ⟨2, ![10000, 100]⟩
abbrev S4096x1 : Shape := ⟨2, ![4096, 1]⟩
abbrev S4096 : Shape := ⟨1, ![4096]⟩
abbrev S100 : Shape := ⟨1, ![100]⟩
abbrev S1x100 : Shape := ⟨2, ![1, 100]⟩
abbrev S64x10000 : Shape := ⟨2, ![64, 10000]⟩
abbrev S256x1 : Shape := ⟨2, ![256, 1]⟩
abbrev S64 : Shape := ⟨1, ![64]⟩
abbrev S64x1 : Shape := ⟨2, ![64, 1]⟩
abbrev S64x100 : Shape := ⟨2, ![64, 100]⟩

abbrev nBuf : Space → Nat
  | .hbm => 6
  | .vmem => 13
  | .smem => 0
  | _ => 0

abbrev bufTy : (tb : Table) → Fin (tcTables nBuf tb) → BufTy
  | .hbm, ⟨0, _⟩ => ⟨S4096x10000, .f32⟩
  | .hbm, ⟨1, _⟩ => ⟨S100x10000, .f32⟩
  | .hbm, ⟨2, _⟩ => ⟨S10000x100, .f32⟩
  | .hbm, ⟨3, _⟩ => ⟨S10000x100, .bf16⟩
  | .hbm, ⟨4, _⟩ => ⟨S4096x1, .i32⟩
  | .hbm, ⟨5, _⟩ => ⟨S4096, .i32⟩
  | .local _ .vmem, ⟨0, _⟩ => ⟨S10000x100, .f32⟩
  | .local _ .vmem, ⟨1, _⟩ => ⟨S10000x100, .bf16⟩
  | .local _ .vmem, ⟨2, _⟩ => ⟨S64x10000, .f32⟩
  | .local _ .vmem, ⟨3, _⟩ => ⟨S64x10000, .f32⟩
  | .local _ .vmem, ⟨4, _⟩ => ⟨S64x10000, .f32⟩
  | .local _ .vmem, ⟨5, _⟩ => ⟨S64x10000, .f32⟩
  | .local _ .vmem, ⟨6, _⟩ => ⟨S64x10000, .f32⟩
  | .local _ .vmem, ⟨7, _⟩ => ⟨S64x10000, .f32⟩
  | .local _ .vmem, ⟨8, _⟩ => ⟨S64x10000, .f32⟩
  | .local _ .vmem, ⟨9, _⟩ => ⟨S64x10000, .f32⟩
  | .local _ .vmem, ⟨10, _⟩ => ⟨S10000x100, .bf16⟩
  | .local _ .vmem, ⟨11, _⟩ => ⟨S256x1, .i32⟩
  | .local _ .vmem, ⟨12, _⟩ => ⟨S256x1, .i32⟩
  | _, _ => ⟨S4096x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem5_1 : DmaSem sig := 12

abbrev nD : Nat := 1
abbrev τ : Topo := Topo.v7x

variable {F : FTy → Type} [FloatOps F]

abbrev grid0 : Pipeline.Grid := .none

abbrev stage0_0 : Fin 1 → Memref sig .tc .vmem S10000x100 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10000x100 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![16], ![false]⟩

def cc1_transform_0 (i : grid1.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S64x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S64x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x10000 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S10000x100 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x1 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S4096x10000 : Shape := ⟨2, ![4096, 10000]⟩
abbrev S100x10000 : Shape := ⟨2, ![100, 10000]⟩
abbrev S_ : Shape := ⟨0, ![]⟩
abbrev S4096 : Shape := ⟨1, ![4096]⟩
abbrev S4096x1 : Shape := ⟨2, ![4096, 1]⟩
abbrev S100 : Shape := ⟨1, ![100]⟩
abbrev S100x1 : Shape := ⟨2, ![100, 1]⟩
abbrev S10000x100 : Shape := ⟨2, ![10000, 100]⟩
abbrev S4096x100 : Shape := ⟨2, ![4096, 100]⟩

abbrev nBuf : Space → Nat
  | .hbm => 29
  | .vmem => 0
  | .smem => 0
  | _ => 0

abbrev bufTy : (tb : Table) → Fin (tcTables nBuf tb) → BufTy
  | .hbm, ⟨0, _⟩ => ⟨S4096x10000, .f32⟩
  | .hbm, ⟨1, _⟩ => ⟨S100x10000, .f32⟩
  | .hbm, ⟨2, _⟩ => ⟨S4096x10000, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x10000, .f32⟩
  | .hbm, ⟨11, _⟩ => ⟨S4096x10000, .f32⟩
  | .hbm, ⟨12, _⟩ => ⟨S100x10000, .f32⟩
  | .hbm, ⟨13, _⟩ => ⟨S_, .f32⟩
  | .hbm, ⟨14, _⟩ => ⟨S100, .f32⟩
  | .hbm, ⟨15, _⟩ => ⟨S100x1, .f32⟩
  | .hbm, ⟨16, _⟩ => ⟨S100x1, .f32⟩
  | .hbm, ⟨17, _⟩ => ⟨S_, .f32⟩
  | .hbm, ⟨18, _⟩ => ⟨S100x1, .f32⟩
  | .hbm, ⟨19, _⟩ => ⟨S100x1, .f32⟩
  | .hbm, ⟨20, _⟩ => ⟨S100x10000, .f32⟩
  | .hbm, ⟨21, _⟩ => ⟨S100x10000, .f32⟩
  | .hbm, ⟨22, _⟩ => ⟨S10000x100, .f32⟩
  | .hbm, ⟨23, _⟩ => ⟨S4096x100, .f32⟩
  | .hbm, ⟨24, _⟩ => ⟨S4096x100, .i32⟩
  | .hbm, ⟨25, _⟩ => ⟨S_, .f32⟩
  | .hbm, ⟨26, _⟩ => ⟨S_, .i32⟩
  | .hbm, ⟨27, _⟩ => ⟨S4096, .f32⟩
  | .hbm, ⟨28, _⟩ => ⟨S4096, .i32⟩
  | _, _ => ⟨S4096x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_call2_v0 : Ref sig .tc := ⟨.hbm, 24, rfl⟩
abbrev main_call2_cst : Ref sig .tc := ⟨.hbm, 25, rfl⟩
abbrev main_call2_c : Ref sig .tc := ⟨.hbm, 26, rfl⟩
abbrev main_call2_v1_0 : Ref sig .tc := ⟨.hbm, 27, rfl⟩
abbrev main_v12 : Ref sig .tc := ⟨.hbm, 28, rfl⟩

abbrev nD : Nat := 1
abbrev τ : Topo := Topo.v7x

variable {F : FTy → Type} [FloatOps F]
-- ==== Proof.KernelRun.lean ====
/-
  The run of the kernel's program, read at its result: every execution ends with the result array at the contents the
  last boundary of the program's segments holds for it, and the two arguments as they were.
-/
module

public import proofs.«01_k».proof.Proof.Gen.KernelIdeal.Frame
public import Idealize.ShloMosaic.Adequacy
public import Idealize.ShloMosaic.Init

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every execution terminates with the result array at `W4`'s contents of it, and
    both arguments unchanged. -/
theorem run : θ_run defs (onTc (τ := τ) (main (F := F))) ⟨m, fun _ => 0, ρ⟩ (fun r => ∀ c : Dev nD,
      r.2.mem ((c.tc : Thread nD τ).loc main_v0) = W4 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c =>
      ⟨h c _ (mem_uc main_v0 (by decide)),
       (h c _ (mem_uc main_arg0 (by decide))).trans (W4_main_arg0 m ρ c),
       (h c _ (mem_uc main_arg1 (by decide))).trans (W4_main_arg1 m ρ c)⟩)

end Cert.KernelIdeal.Run

end
-- ==== Proof.ArgMax.lean ====
/-
  The two ways of naming the first largest of 100 scores, and that they agree: the kernel takes the maximum, replaces
  every class whose score is below it by 100 and takes the least of what remains; the reference walks the classes in
  some order with a running (score, class) pair, keeping the greater score and on equal scores the smaller class.
-/
module

public import Idealize.ShloMosaic.PureOps.Ideal
public import Idealize.ShloMosaic.Lib.Pointwise
public import proofs.«01_k».proof.Proof.Gen.ReferenceIdeal

@[expose] public section

noncomputable section

namespace Cert.ArgMax

open Idealize.ShloMosaic

/-- The largest of the 100 scores, the fold starting at the pattern of `-∞`. -/
def top (s : Fin 100 → EReal) : EReal :=
  Finset.univ.fold max (Ideal.ofBits .f32 4286578688#32) s

/-- The kernel's class: the least of the classes whose score is the largest, every other class read as 100. -/
def firstMax (s : Fin 100 → EReal) : BitVec 32 :=
  Finset.univ.fold IntOp.minsi 2147483647#32 fun k => if s k = top s then BitVec.ofNat 32 k.val else 100#32

/-- The pattern `0xFF800000` is `-∞`. -/
theorem ofBits_negInf : Ideal.ofBits .f32 4286578688#32 = (⊥ : EReal) := by
  simp [Ideal.ofBits, Ideal.ieee]

/-- `k` names the first largest score: no score is above `s k`, and none before `k` equals it. -/
def IsFirst (s : Fin 100 → EReal) (k : Fin 100) : Prop :=
  (∀ k', s k' ≤ s k) ∧ ∀ k', s k' = s k → k ≤ k'

/-- The score of the first largest is the maximum. -/
theorem top_eq {s : Fin 100 → EReal} {k : Fin 100} (h : IsFirst s k) : top s = s k := by
  unfold top
  rw [ofBits_negInf]
  apply le_antisymm
  · exact (Finset.fold_max_le _).mpr ⟨bot_le, fun k' _ => h.1 k'⟩
  · exact (Finset.le_fold_max _).mpr (.inr ⟨k, Finset.mem_univ _, le_rfl⟩)

/-- Signed minimum on 32-bit words is one of the two and at most each. -/
theorem minsi_spec (a b : BitVec 32) :
    (IntOp.minsi a b = a ∨ IntOp.minsi a b = b)
      ∧ (IntOp.minsi a b).toInt ≤ a.toInt ∧ (IntOp.minsi a b).toInt ≤ b.toInt := by
  unfold IntOp.minsi
  split <;> rename_i h <;> simp only [BitVec.slt, BitVec.sle, decide_eq_true_eq] at h <;> refine ⟨by simp, ?_, ?_⟩ <;> omega

/-- The signed minimum over a finite set is the start or one of the members, and at most each of them. -/
theorem fold_minsi_spec {ι : Type} [DecidableEq ι] (f : ι → BitVec 32) (z : BitVec 32) (S : Finset ι) :
    (S.fold IntOp.minsi z f = z ∨ ∃ k ∈ S, S.fold IntOp.minsi z f = f k)
      ∧ (S.fold IntOp.minsi z f).toInt ≤ z.toInt ∧ ∀ k ∈ S, (S.fold IntOp.minsi z f).toInt ≤ (f k).toInt := by
  induction S using Finset.induction_on with
  | empty => simp
  | insert a S ha ih =>
    rw [Finset.fold_insert ha]
    obtain ⟨hor, hz, hall⟩ := ih
    obtain ⟨h1, h2, h3⟩ := minsi_spec (f a) (S.fold IntOp.minsi z f)
    refine ⟨?_, h3.trans hz, fun k hk => ?_⟩
    · rcases h1 with h1 | h1
      · exact .inr ⟨a, Finset.mem_insert_self _ _, h1⟩
      · rw [h1]
        exact hor.imp id fun ⟨k, hk, e⟩ => ⟨k, Finset.mem_insert_of_mem hk, e⟩
    · rcases Finset.mem_insert.mp hk with rfl | hk
      · exact h2
      · exact h3.trans (hall k hk)

/-- A class read as a signed 32-bit word is itself. -/
theorem toInt_class (k : Fin 100) : (BitVec.ofNat 32 k.val).toInt = (k.val : Int) := by
  have h := k.isLt
  rw [BitVec.toInt_eq_toNat_cond, BitVec.toNat_ofNat]
  omega

/-- The kernel's class is the first largest. -/
theorem firstMax_eq {s : Fin 100 → EReal} {k : Fin 100} (h : IsFirst s k) : firstMax s = BitVec.ofNat 32 k.val := by
  unfold firstMax
  rw [top_eq h]
  obtain ⟨hor, -, hall⟩ := fold_minsi_spec (fun k' : Fin 100 => if s k' = s k then BitVec.ofNat 32 k'.val else 100#32)
    2147483647#32 Finset.univ
  have hk := hall k (Finset.mem_univ _)
  have hlt := k.isLt
  rw [if_pos rfl, toInt_class] at hk
  rcases hor with e | ⟨k', -, e⟩
  · rw [e] at hk
    have : (2147483647#32 : BitVec 32).toInt = 2147483647 := by decide
    omega
  · rw [e] at hk ⊢
    by_cases hs : s k' = s k
    · rw [if_pos hs] at hk ⊢
      rw [toInt_class] at hk
      have := h.2 k' hs
      have : k' = k := le_antisymm (Fin.le_def.mpr (by omega)) this
      rw [this]
    · rw [if_neg hs] at hk
      have : (100#32 : BitVec 32).toInt = 100 := by decide
      omega

/-! ## The reference's walk -/

/-- `p` is at least as good as `q`: a greater score, or an equal score and a class no larger. -/
def Beats (p q : EReal × BitVec 32) : Prop := q.1 < p.1 ∨ q.1 = p.1 ∧ p.2.toInt ≤ q.2.toInt

theorem Beats.refl (p : EReal × BitVec 32) : Beats p p := .inr ⟨rfl, le_rfl⟩

theorem Beats.trans {p q r : EReal × BitVec 32} (h : Beats p q) (h' : Beats q r) : Beats p r := by
  rcases h with h | ⟨h, hi⟩ <;> rcases h' with h' | ⟨h', hi'⟩
  · exact .inl (h'.trans h)
  · exact .inl (h' ▸ h)
  · exact .inl (h ▸ h')
  · exact .inr ⟨h'.trans h, hi.trans hi'⟩

/-- One step of the reference's walk over exact scores: the left pair if its score is greater, or equal with a smaller
    class; else the right pair. -/
theorem step_eq (a b : EReal × BitVec 32) :
    Cert.ReferenceIdeal.reducer_argmax_f32_i32 (F := Ideal) a b
      = if b.1 < a.1 ∨ a.1 = b.1 ∧ a.2.toInt < b.2.toInt then a else b := by
  obtain ⟨x, i⟩ := a
  obtain ⟨y, j⟩ := b
  unfold Cert.ReferenceIdeal.reducer_argmax_f32_i32
  rcases lt_trichotomy x y with h | h | h
  · have h1 : ¬ y < x := not_lt.mpr h.le
    have h2 : x ≠ y := h.ne
    simp [FloatOps.cmpf, Ideal.cmp, Scalar.select, IntOp.ori, IntOp.andi, IntOp.cmpi, h1, h2]
  · subst h
    by_cases hij : i.toInt < j.toInt <;>
      simp [FloatOps.cmpf, Ideal.cmp, Scalar.select, IntOp.ori, IntOp.andi, IntOp.cmpi, BitVec.slt, hij]
  · have h2 : x ≠ y := h.ne'
    simp [FloatOps.cmpf, Ideal.cmp, Scalar.select, IntOp.ori, IntOp.andi, IntOp.cmpi, h, h2]

/-- One step keeps one of its two pairs, and one that beats both. -/
theorem step_spec (a b : EReal × BitVec 32) :
    (Cert.ReferenceIdeal.reducer_argmax_f32_i32 (F := Ideal) a b = a
        ∨ Cert.ReferenceIdeal.reducer_argmax_f32_i32 (F := Ideal) a b = b)
      ∧ Beats (Cert.ReferenceIdeal.reducer_argmax_f32_i32 (F := Ideal) a b) a
      ∧ Beats (Cert.ReferenceIdeal.reducer_argmax_f32_i32 (F := Ideal) a b) b := by
  rw [step_eq]
  split <;> rename_i h
  · exact ⟨.inl rfl, .refl _, h.imp id fun h => ⟨h.1.symm, h.2.le⟩⟩
  · refine ⟨.inr rfl, ?_, .refl _⟩
    push Not at h
    rcases h.1.lt_or_eq with h1 | h1
    · exact .inl h1
    · exact .inr ⟨h1, h.2 h1⟩

/-- The walk ends at the start or at a pair of the list, and at one that beats them all. -/
theorem walk_spec (L : List (EReal × BitVec 32)) (z : EReal × BitVec 32) :
    (L.foldl (Cert.ReferenceIdeal.reducer_argmax_f32_i32 (F := Ideal)) z = z
        ∨ L.foldl (Cert.ReferenceIdeal.reducer_argmax_f32_i32 (F := Ideal)) z ∈ L)
      ∧ Beats (L.foldl (Cert.ReferenceIdeal.reducer_argmax_f32_i32 (F := Ideal)) z) z
      ∧ ∀ p ∈ L, Beats (L.foldl (Cert.ReferenceIdeal.reducer_argmax_f32_i32 (F := Ideal)) z) p := by
  induction L generalizing z with
  | nil => exact ⟨.inl rfl, .refl _, by simp⟩
  | cons b L ih =>
    rw [List.foldl_cons]
    obtain ⟨hor, hz, hall⟩ := ih (Cert.ReferenceIdeal.reducer_argmax_f32_i32 (F := Ideal) z b)
    obtain ⟨h1, h2, h3⟩ := step_spec z b
    refine ⟨?_, hz.trans h2, fun p hp => ?_⟩
    · rcases hor with e | e
      · rw [e]
        exact h1.imp id fun h => by rw [h]; exact List.mem_cons_self
      · exact .inr (List.mem_cons_of_mem _ e)
    · rcases List.mem_cons.mp hp with rfl | hp
      · exact hz.trans h3
      · exact hall p hp

/-- From (`-∞`, class 0), over a list whose pairs are exactly the 100 classes with their scores in whatever order, the
    walk ends at the kernel's class. -/
theorem walk_eq_firstMax (s : Fin 100 → EReal) (L : List (EReal × BitVec 32))
    (hL : ∀ p, p ∈ L ↔ ∃ k : Fin 100, p = (s k, BitVec.ofNat 32 k.val)) :
    (L.foldl (Cert.ReferenceIdeal.reducer_argmax_f32_i32 (F := Ideal)) (⊥, 0#32)).2 = firstMax s := by
  obtain ⟨hor, -, hall⟩ := walk_spec L (⊥, 0#32)
  generalize L.foldl (Cert.ReferenceIdeal.reducer_argmax_f32_i32 (F := Ideal)) (⊥, 0#32) = p at hor hall
  have hall' (k : Fin 100) : Beats p (s k, BitVec.ofNat 32 k.val) := hall _ ((hL _).mpr ⟨k, rfl⟩)
  have hp : ∃ k : Fin 100, p = (s k, BitVec.ofNat 32 k.val) := by
    rcases hor with rfl | h
    · refine ⟨0, ?_⟩
      rcases hall' 0 with h | ⟨h, -⟩
      · exact absurd h not_lt_bot
      · exact Prod.ext h.symm rfl
    · exact (hL p).mp h
  obtain ⟨k, rfl⟩ := hp
  refine (firstMax_eq ⟨fun k' => ?_, fun k' hk' => ?_⟩).symm
  · rcases hall' k' with h | ⟨h, -⟩
    · exact h.le
    · exact h.le
  · rcases hall' k' with h | ⟨-, h⟩
    · exact absurd h (by simp [hk'])
    · simp only [toInt_class] at h
      exact Fin.le_def.mpr (by omega)

end Cert.ArgMax

end
-- ==== Proof.Block.lean ====
/-
  What the two kernels compute on one block, read at an index at the exact instance: the preparation kernel divides each
  column by its length; the retrieval kernel names, for each of its 256 rows, the class whose column has the largest
  product with the row divided by its length.
-/
module

public import proofs.«01_k».proof.Proof.Gen.KernelIdeal.Frame
public import Idealize.ShloMosaic.Lib.Pointwise
public import proofs.«01_k».proof.Proof.ArgMax

@[expose] public section

set_option maxRecDepth 16384

noncomputable section

namespace Cert.Block

open Idealize.ShloMosaic Cert.KernelIdeal Cert.KernelIdeal.Gen

/-- A vector of 10000 entries divided by its length, the length raised to the small constant of the programs if below it. -/
def unit (v : Fin 10000 → EReal) (d : Fin 10000) : EReal :=
  Ideal.div (v d) (max (Ideal.sqrt (∑ e, v e * v e)) (Ideal.ofBits FTy.f32 841731191#32))

/-- The class the kernel names for a row `v`: the first of the 100 columns of `a` whose product with the unit row is largest. -/
def rowClass (a : S10000x100.Idx → EReal) (v : Fin 10000 → EReal) : BitVec 32 :=
  ArgMax.firstMax fun k => ∑ d, unit v d * a (ix2 d k)

/-- The preparation kernel's block: each column divided by its length. -/
theorem prep_apply (a : Vec Ideal S10000x100 .f32) (d : Fin 10000) (k : Fin 100) :
    k0_pay1 a (ix2 d k) = unit (fun e => a (ix2 e k)) d := by
  unfold unit
  pointwise [k0_pay1]

/-- One strip of 64 rows: each row's class. -/
theorem strip_apply (a : Vec Ideal S10000x100 .bf16) (x : Vec Ideal S64x10000 .f32) (r : Fin 64) (q : Fin 1) :
    k1_pay2 a x (ix2 r q) = rowClass a fun d => x (ix2 r d) := by
  unfold rowClass ArgMax.firstMax ArgMax.top unit
  pointwise [k1_pay2, k1_pay1]

/-- The four strips the kernel works are one computation at four blocks, set one below the other. -/
theorem block_eq (a : Vec Ideal S10000x100 .bf16) (x0 x1 x2 x3 : Vec Ideal S64x10000 .f32) :
    k1_pay4 (k1_pay1 a) (k1_pay2 a x0) (k1_pay3 a x1) x2 x3
      = concatenate S256x1 0
          [⟨S64x1, k1_pay2 a x0⟩, ⟨S64x1, k1_pay2 a x1⟩, ⟨S64x1, k1_pay2 a x2⟩, ⟨S64x1, k1_pay2 a x3⟩]
          Facts₀.concatenates_S64x1_S64x1_S64x1_S64x1_S256x1_d0 := rfl

/-- The block of 256 rows, when its four strips are rows `v 0 … v 255` in order: row `r`'s class. -/
theorem block_apply (a : Vec Ideal S10000x100 .bf16) (x0 x1 x2 x3 : Vec Ideal S64x10000 .f32)
    (v : Nat → Fin 10000 → EReal)
    (h0 : ∀ (r : Fin 64) d, x0 (ix2 r d) = v r.val d)
    (h1 : ∀ (r : Fin 64) d, x1 (ix2 r d) = v (64 + r.val) d)
    (h2 : ∀ (r : Fin 64) d, x2 (ix2 r d) = v (128 + r.val) d)
    (h3 : ∀ (r : Fin 64) d, x3 (ix2 r d) = v (192 + r.val) d)
    (r : Fin 256) (q : Fin 1) :
    k1_pay4 (k1_pay1 a) (k1_pay2 a x0) (k1_pay3 a x1) x2 x3 (ix2 r q) = rowClass a (v r.val) := by
  rw [block_eq]
  pointwise
  have hr := r.isLt
  split
  · simp only [strip_apply, h0]
  · split
    · simp only [strip_apply, h1]
      exact congrArg (fun n => rowClass a (v n)) (by omega)
    · split
      · simp only [strip_apply, h2]
        exact congrArg (fun n => rowClass a (v n)) (by omega)
      · simp only [strip_apply, h3]
        exact congrArg (fun n => rowClass a (v n)) (by omega)

end Cert.Block

end
-- ==== Proof.Arrays.lean ====
/-
  What the kernel's arrays hold: the second argument transposed, its columns divided by their lengths, the class of
  every row, and the result as the same classes in one dimension.
-/
module

public import proofs.«01_k».proof.Proof.Block
public import Idealize.ShloMosaic.Lib.Pipeline.Value
public import Idealize.ShloMosaic.Lib.Pipeline.ValueKit.Geometry
public import Idealize.ShloMosaic.Lib.Claim

@[expose] public section

set_option maxRecDepth 16384

noncomputable section

namespace Cert.KernelIdeal.Arrays

open Idealize.ShloMosaic Idealize.ShloMosaic.TcCoe Cert.KernelIdeal Cert.KernelIdeal.Gen
open Idealize.ShloMosaic.Pipeline (Dat)
open Cert.Block (unit rowClass)

theorem hz : (![0, 0] : Fin 2 → Nat) = fun _ => 0 := funext fun a => by fin_cases a <;> rfl

section Regions
variable (V : (c : Dev nD) → (b : Ref sig .tc) → Buf (Elt Ideal) ((c : Thread nD τ).loc b))

/-- The preparation kernel's input block is the whole input, -/
theorem iblk0_whole (c : Dev nD) (t : Fin cfg0.N) : iblk0 V c 0 t = V c main_call0_v0 := by
  funext y
  blk_simp [iblk0]
  congr 1
  blk_ext [(by decide +kernel : ∀ t : Fin grid0.N, win0_0.index t = ![0, 0]) t]

/-- and its output block the whole output. -/
theorem index0_1 : ∀ t : Fin cfg0.N, win0_1.index t = ![0, 0] :=
  (by decide +kernel : ∀ t : Fin grid0.N, win0_1.index t = ![0, 0])

/-- The retrieval kernel reads the unit columns whole at every point, -/
theorem iblk1_classes (c : Dev nD) (t : Fin cfg1.N) : iblk1 V c 4 t = V c main_call0_v1 := by
  funext y
  blk_simp [iblk1]
  congr 1
  blk_ext [(by decide +kernel : ∀ t : Fin grid1.N, win1_4.index t = ![0, 0]) t]

/-- The rows of `x` from row `b` on, in order. -/
def rowsFrom (x : S4096x10000.Idx → EReal) (b : Nat) : Nat → Fin 10000 → EReal := fun n d =>
  if h : b + n < 4096 then x (ix2 ⟨b + n, h⟩ d) else 0

/-- An index with row `b + n` and column `d` reads that entry. -/
theorem rowsFrom_eq (x : S4096x10000.Idx → EReal) (b n : Nat) (d : Fin 10000) (i : S4096x10000.Idx)
    (h0 : (i 0 : Nat) = b + n) (h1 : (i 1 : Nat) = d.val) : x i = rowsFrom x b n d := by
  have hi : b + n < 4096 := h0 ▸ (i 0).isLt
  unfold rowsFrom
  rw [dif_pos hi]
  congr 1
  rw [eq_ix2 i]
  exact congrArg₂ ix2 (Fin.ext h0) (Fin.ext h1)

/-! Strip `j` of point `t` is the 64 rows from row `256 t + 64 j` on, for each of the four strips. -/

theorem strip0 (c : Dev nD) (t : Fin cfg1.N) (r : Fin 64) (d : Fin 10000) :
    iblk1 V c 0 t (ix2 r d) = rowsFrom (V c main_arg0) (256 * t.val) r.val d := by
  have e := (by decide +kernel : ∀ t : Fin grid1.N, win1_0.index t = ![4 * t.val, 0]) t
  blk_simp [iblk1]
  refine rowsFrom_eq _ _ _ _ _ ?_ ?_ <;> blk_simp [e] <;> (try simp) <;> omega

theorem strip1 (c : Dev nD) (t : Fin cfg1.N) (r : Fin 64) (d : Fin 10000) :
    iblk1 V c 1 t (ix2 r d) = rowsFrom (V c main_arg0) (256 * t.val) (64 + r.val) d := by
  have e := (by decide +kernel : ∀ t : Fin grid1.N, win1_1.index t = ![4 * t.val + 1, 0]) t
  blk_simp [iblk1]
  refine rowsFrom_eq _ _ _ _ _ ?_ ?_ <;> blk_simp [e] <;> (try simp) <;> omega

theorem strip2 (c : Dev nD) (t : Fin cfg1.N) (r : Fin 64) (d : Fin 10000) :
    iblk1 V c 2 t (ix2 r d) = rowsFrom (V c main_arg0) (256 * t.val) (128 + r.val) d := by
  have e := (by decide +kernel : ∀ t : Fin grid1.N, win1_2.index t = ![4 * t.val + 2, 0]) t
  blk_simp [iblk1]
  refine rowsFrom_eq _ _ _ _ _ ?_ ?_ <;> blk_simp [e] <;> (try simp) <;> omega

theorem strip3 (c : Dev nD) (t : Fin cfg1.N) (r : Fin 64) (d : Fin 10000) :
    iblk1 V c 3 t (ix2 r d) = rowsFrom (V c main_arg0) (256 * t.val) (192 + r.val) d := by
  have e := (by decide +kernel : ∀ t : Fin grid1.N, win1_3.index t = ![4 * t.val + 3, 0]) t
  blk_simp [iblk1]
  refine rowsFrom_eq _ _ _ _ _ ?_ ?_ <;> blk_simp [e] <;> (try simp) <;> omega

/-- The preparation kernel leaves each column of its input divided by its length. -/
theorem prep_array (c : Dev nD) (d : Fin 10000) (k : Fin 100) :
    (dat0 V c).arrAt 1 cfg0.N (ix2 d k) = unit (fun e => V c main_call0_v0 (ix2 e k)) d := by
  rw [← Block.prep_apply]
  refine congrFun (a := ix2 d k) ((dat0 V c).arrAt_eq_of_covers 1 (k0_pay1 (V c main_call0_v0)) (by decide +kernel)
    fun t _ y => ?_)
  blk_simp
  rw [after0_1]
  unfold out0_1
  rw [View.canon_unit_zero hz, View.ld_unit_zero hz, iblk0_whole]
  congr 1
  blk_ext [index0_1 t]

/-- The class of row `n` for the columns `a`. -/
def classes (a : S10000x100.Idx → EReal) (x : S4096x10000.Idx → EReal) : IVec S4096x1 32 := fun i =>
  rowClass a fun d => x (ix2 (n0 := 4096) (i 0) d)

/-- The retrieval kernel leaves every row's class. -/
theorem class_array (c : Dev nD) :
    (dat1 V c).arrAt 5 cfg1.N = classes (V c main_call0_v1) (V c main_arg0) := by
  refine (dat1 V c).arrAt_eq_of_covers 5 _ (by decide +kernel) fun t _ y => ?_
  blk_simp
  rw [after1_5]
  unfold out1_5
  rw [View.canon_unit_zero hz, View.ld_unit_zero hz, View.ld_unit_zero hz, View.ld_unit_zero hz, View.ld_unit_zero hz, View.ld_unit_zero hz, iblk1_classes]
  obtain ⟨r, q, rfl⟩ : ∃ (r : Fin 256) (q : Fin 1), y = ix2 r q := ⟨_, _, eq_ix2 y⟩
  have hr := r.isLt
  have ht : t.val < 16 := t.isLt.trans_eq N_1
  rw [Block.block_apply _ _ _ _ _ (rowsFrom (V c main_arg0) (256 * t.val)) (strip0 V c t) (strip1 V c t) (strip2 V c t)
    (strip3 V c t) r q]
  unfold classes
  congr 1
  funext d
  have e := (by decide +kernel : ∀ t : Fin grid1.N, win1_5.index t = ![t.val, 0]) t
  refine (rowsFrom_eq _ _ _ _ _ ?_ ?_).symm <;> blk_simp [e] <;> (try simp) <;> omega

end Regions

variable (m : (ℓ : Loc nD τ sig) → Buf (Elt Ideal) ℓ) (ρ : Dev nD → PrngReg)

/-- The preparation kernel's input is the second argument transposed. -/
theorem V1_read (c : Dev nD) (d : Fin 10000) (k : Fin 100) :
    V1 m ρ c main_call0_v0 (ix2 d k) = m ((c.tc : Thread nD τ).loc main_arg1) (ix2 k d) := by
  have : V1 m ρ c main_call0_v0 = transpose S10000x100 [1, 0] (m ((c.tc : Thread nD τ).loc main_arg1)) Facts₀.transposes_S100x10000_S10000x100_1_0 := by
    rfl
  rw [this]
  pointwise

/-- The result is the column of classes in one dimension. -/
theorem result_read (c : Dev nD) (n : Fin 4096) :
    W4 m ρ c (Proc.devRef .tc main_v0) (ix1 n) = W3 m ρ c (Proc.devRef .tc main_call0_v2) (ix2 n 0) := by
  have : W4 m ρ c (Proc.devRef .tc main_v0)
      = shapeCast S4096 (W3 m ρ c (Proc.devRef .tc main_call0_v2)) Facts₀.shapeCasts_S4096x1_S4096 := rfl
  rw [this]
  pointwise

/-- The kernel's result at row `n`: the first of the 100 classes whose unit vector has the largest product with the
    unit vector of the row. -/
theorem result_apply (c : Dev nD) (n : Fin 4096) :
    W4 m ρ c (Proc.devRef .tc main_v0) (ix1 n)
      = ArgMax.firstMax fun k => ∑ d, unit (fun e => m ((c.tc : Thread nD τ).loc main_arg0) (ix2 n e)) d
          * unit (fun e => m ((c.tc : Thread nD τ).loc main_arg1) (ix2 k e)) d := by
  have h3 : W3 m ρ c (Proc.devRef .tc main_call0_v2) = classes (V2 m ρ c main_call0_v1) (V2 m ρ c main_arg0) :=
    (W3_arr m ρ c 5).trans (class_array (V2 m ρ) c)
  have hx : V2 m ρ c main_arg0 = m ((c.tc : Thread nD τ).loc main_arg0) := W2_args m ρ c main_arg0 (by decide)
  have ha (d : Fin 10000) (k : Fin 100) : V2 m ρ c main_call0_v1 (ix2 d k)
      = unit (fun e => m ((c.tc : Thread nD τ).loc main_arg1) (ix2 k e)) d := by
    refine (congrFun (W2_arr m ρ c 1) (ix2 d k)).trans ((prep_array (V1 m ρ) c d k).trans ?_)
    exact congrArg (unit · d) (funext fun e => V1_read m ρ c e k)
  rw [result_read, h3, hx]
  unfold classes rowClass
  simp only [ha]
  rfl

end Cert.KernelIdeal.Arrays

end
-- ==== Proof.Reference.lean ====
/-
  The reference's run and what its result holds: the whole computation as one term of the two arguments, its scores read
  at an index, and its result at a row as the first largest of that row's scores.
-/
module

public import proofs.«01_k».proof.Defs
public import proofs.«01_k».proof.Proof.Block
public import Idealize.ShloMosaic.Lib.Claim
public import Idealize.ShloMosaic.Lib.Quiescent
public import Idealize.ShloMosaic.PureOps.Ideal.Laws

@[expose] public section

set_option maxRecDepth 16384

noncomputable section

namespace Cert.ReferenceIdeal.Read

open Idealize.ShloMosaic Idealize.ShloMosaic.TcCoe Idealize.SL.Sem Cert.ReferenceIdeal
open Cert.ReferenceIdeal.Facts₀
open Cert.Block (unit)

/-- The rows of the first argument divided by their lengths. -/
def unitRows (x : FVec Ideal S4096x10000 .f32) : FVec Ideal S4096x10000 .f32 :=
  Host.divf x (broadcastInDim S4096x10000 ![0, 1] bcast_S4096x1_S4096x10000_0_1
    (maximumf
      (Host.sqrt (broadcastInDim S4096x1 ![0] bcast_S4096_S4096x1_0
        (Host.reduceAdd (mulf x x) (constant S_ .f32 0x00000000#32) reducesTo_S4096x10000_S4096_d1 h_S_)))
      (broadcastInDim S4096x1 ![] bcast_S_S4096x1 (constant S_ .f32 0x322BCC77#32))))

/-- The rows of the second argument divided by their lengths. -/
def unitClasses (a : FVec Ideal S100x10000 .f32) : FVec Ideal S100x10000 .f32 :=
  Host.divf a (broadcastInDim S100x10000 ![0, 1] bcast_S100x1_S100x10000_0_1
    (maximumf
      (Host.sqrt (broadcastInDim S100x1 ![0] bcast_S100_S100x1_0
        (Host.reduceAdd (mulf a a) (constant S_ .f32 0x00000000#32) reducesTo_S100x10000_S100_d1 h_S_)))
      (broadcastInDim S100x1 ![] bcast_S_S100x1 (constant S_ .f32 0x322BCC77#32))))

/-- Every row's score against every class. -/
def scores (x : FVec Ideal S4096x10000 .f32) (a : FVec Ideal S100x10000 .f32) : FVec Ideal S4096x100 .f32 :=
  Host.dotGeneral dot_S4096x10000_S10000x100_S4096x100_1_0_0_1_n_n none (unitRows x)
    (transpose S10000x100 [1, 0] (unitClasses a) transposes_S100x10000_S10000x100_1_0)

/-- The reference's result as one term of its arguments. -/
def result (x : FVec Ideal S4096x10000 .f32) (a : FVec Ideal S100x10000 .f32) : IVec S4096 32 := fun j =>
  (Host.argReduce reducer_argmax_f32_i32 (scores x a) (iotaInDim S4096x100 32 1) (constant S_ .f32 0xFF800000#32)
    (constantI S_ 32 0#32) reducesTo_S4096x100_S4096_d1 h_S_ j).2

/-- Every execution of the reference ends with its result array at `result` of the arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12)
          = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  rfl

/-- A row's score against a class is the product of the two unit vectors. -/
theorem scores_apply (x : FVec Ideal S4096x10000 .f32) (a : FVec Ideal S100x10000 .f32) (n : Fin 4096) (k : Fin 100) :
    scores x a (ix2 n k) = ∑ d, unit (fun e => x (ix2 n e)) d * unit (fun e => a (ix2 k e)) d := by
  unfold unit
  pointwise [scores, unitRows, unitClasses]

/-- The reference's class for a row is the first largest of its scores. -/
theorem result_apply (x : FVec Ideal S4096x10000 .f32) (a : FVec Ideal S100x10000 .f32) (n : Fin 4096) :
    result x a (ix1 n) = ArgMax.firstMax fun k => scores x a (ix2 n k) := by
  unfold result
  rw [Ideal.argReduce_eq_reduce2, Host.reduce2_eq_foldl_fiber]
  have hz : constant (F := Ideal) S_ .f32 0xFF800000#32 (Shape.Idx.first h_S_) = (⊥ : EReal) := ArgMax.ofBits_negInf
  rw [hz]
  refine ArgMax.walk_eq_firstMax _ _ fun p => ?_
  have hdrop (i : S4096x100.Idx) :
      Shape.ReducesTo.drop reducesTo_S4096x100_S4096_d1 i = ix1 n ↔ i 0 = n := by
    have h0 := Shape.ReducesTo.drop_apply_val_of_eq reducesTo_S4096x100_S4096_d1 i 0 0
    constructor
    · intro h
      rw [h] at h0
      exact Fin.ext h0.symm
    · intro h
      funext b
      fin_cases b
      exact Fin.ext (h0.trans (congrArg Fin.val h))
  simp only [Host.argReduceFiber, List.mem_map, List.mem_filter, List.mem_finRange, true_and, decide_eq_true_eq, hdrop]
  constructor
  · rintro ⟨q, hq, rfl⟩
    generalize S4096x100.rowMajor.symm q = i at hq
    refine ⟨i 1, ?_⟩
    rw [eq_ix2 i, ← hq]
    rfl
  · rintro ⟨k, rfl⟩
    refine ⟨S4096x100.rowMajor (ix2 n k), ?_⟩
    rw [Equiv.symm_apply_apply]
    exact ⟨rfl, rfl⟩

/-- No semaphore is declared, so every counter is zero at the end. -/
theorem frame : Cert.quiescent_ReferenceIdeal := fun m ρ _ =>
  (θ_run defs _ _).mono (fun r h => ⟨fun c => (h c).2, sem_eq_zero_of_no_sems (by decide) r.2⟩) (run m ρ)

end Cert.ReferenceIdeal.Read

end
-- ==== Proof.lean ====
/-
  The certificate's proof: the three programs run and give back their arguments with every semaphore counter at zero, and
  on exact numbers the kernel's result is the reference's, at every row the first class of largest score.
-/
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.KernelRun
public import proofs.«01_k».proof.Proof.Arrays
public import proofs.«01_k».proof.Proof.Reference

@[expose] public section

noncomputable section

namespace Cert.Proof

open Idealize.ShloMosaic Idealize.ShloMosaic.TcCoe Idealize.SL.Sem

/-- The reference's result, of the arguments the kernel was given, is the kernel's. -/
theorem result_eq (m : (ℓ : Loc Cert.KernelIdeal.nD Cert.KernelIdeal.τ Cert.KernelIdeal.sig) → Buf (Elt Ideal) ℓ)
    (g : Dev Cert.KernelIdeal.nD → PrngReg) (c : Dev Cert.KernelIdeal.nD) :
    Cert.ReferenceIdeal.Read.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Gen.W4 m g c (Proc.devRef .tc Cert.KernelIdeal.main_v0) := by
  funext i
  rw [eq_ix1 i]
  refine (Cert.ReferenceIdeal.Read.result_apply _ _ _).trans ?_
  refine (congrArg Cert.ArgMax.firstMax (funext fun k => Cert.ReferenceIdeal.Read.scores_apply _ _ _ k)).trans ?_
  exact (Cert.KernelIdeal.Arrays.result_apply m g c _).symm

/-- On exact numbers both programs run from equal arguments to equal results. -/
theorem algebraic : Cert.algebraic_KernelIdeal_ReferenceIdeal := by
  intro m g m' g' _ hagree
  refine ⟨fun c => Cert.KernelIdeal.Gen.W4 m g c (Proc.devRef .tc Cert.KernelIdeal.main_v0),
    Cert.KernelIdeal.Run.run m g, ?_⟩
  refine (θ_run Cert.ReferenceIdeal.defs _ _).mono (fun r h c => ⟨(h c).1.trans ?_, (h c).2⟩)
    (Cert.ReferenceIdeal.Read.run m' g')
  rw [(hagree c).1, (hagree c).2]
  exact result_eq m g c

theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    Cert.ReferenceIdeal.Read.frame,
    trivial,
    algebraic⟩

end Cert.Proof

end
